-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x50x100 : Shape := ⟨4, ![1, 512, 50, 100]⟩
abbrev S1024x512x3x3 : Shape := ⟨4, ![1024, 512, 3, 3]⟩
abbrev S1024 : Shape := ⟨1, ![1024]⟩
abbrev S18x1024x1x1 : Shape := ⟨4, ![18, 1024, 1, 1]⟩
abbrev S18 : Shape := ⟨1, ![18]⟩
abbrev S36x1024x1x1 : Shape := ⟨4, ![36, 1024, 1, 1]⟩
abbrev S36 : Shape := ⟨1, ![36]⟩
abbrev S512x50x100 : Shape := ⟨3, ![512, 50, 100]⟩
abbrev S50x100x512 : Shape := ⟨3, ![50, 100, 512]⟩
abbrev S5000x512 : Shape := ⟨2, ![5000, 512]⟩
abbrev S_ : Shape := ⟨0, ![]⟩
abbrev S5208x512 : Shape := ⟨2, ![5208, 512]⟩
abbrev S3x3x512x1024 : Shape := ⟨4, ![3, 3, 512, 1024]⟩
abbrev S4608x1024 : Shape := ⟨2, ![4608, 1024]⟩
abbrev S18x1024 : Shape := ⟨2, ![18, 1024]⟩
abbrev S36x1024 : Shape := ⟨2, ![36, 1024]⟩
abbrev S54x1024 : Shape := ⟨2, ![54, 1024]⟩
abbrev S64x1024 : Shape := ⟨2, ![64, 1024]⟩
abbrev S1024x64 : Shape := ⟨2, ![1024, 64]⟩
abbrev S54 : Shape := ⟨1, ![54]⟩
abbrev S64 : Shape := ⟨1, ![64]⟩
abbrev S1x1024 : Shape := ⟨2, ![1, 1024]⟩
abbrev S1x64 : Shape := ⟨2, ![1, 64]⟩
abbrev S5000x18 : Shape := ⟨2, ![5000, 18]⟩
abbrev S5000x36 : Shape := ⟨2, ![5000, 36]⟩
abbrev S1000x18 : Shape := ⟨2, ![1000, 18]⟩
abbrev S1000x36 : Shape := ⟨2, ![1000, 36]⟩
abbrev S1208x512 : Shape := ⟨2, ![1208, 512]⟩
abbrev S1000x512 : Shape := ⟨2, ![1000, 512]⟩
abbrev S1000x1024 : Shape := ⟨2, ![1000, 1024]⟩
abbrev S512x1024 : Shape := ⟨2, ![512, 1024]⟩
abbrev S1000x64 : Shape := ⟨2, ![1000, 64]⟩
abbrev S1000x63 : Shape := ⟨2, ![1000, 63]⟩
abbrev S1000x1 : Shape := ⟨2, ![1000, 1]⟩
abbrev S45000x2 : Shape := ⟨2, ![45000, 2]⟩
abbrev S45000x4 : Shape := ⟨2, ![45000, 4]⟩

abbrev nBuf : Space → Nat
  | .hbm => 35
  | .vmem => 9
  | .smem => 0
  | _ => 0

abbrev bufTy : (tb : Table) → Fin (tcTables nBuf tb) → BufTy
  | .hbm, ⟨0, _⟩ => ⟨S1x512x50x100, .f32⟩
  | .hbm, ⟨1, _⟩ => ⟨S1024x512x3x3, .f32⟩
  | .hbm, ⟨2, _⟩ => ⟨S1024, .f32⟩
  | .hbm, ⟨3, _⟩ => ⟨S18x1024x1x1, .f32⟩
  | .hbm, ⟨4, _⟩ => ⟨S18, .f32⟩
  | .hbm, ⟨5, _⟩ => ⟨S36x1024x1x1, .f32⟩
  | .hbm, ⟨6, _⟩ => ⟨S36, .f32⟩
  | .hbm, ⟨7, _⟩ => ⟨S512x50x100, .f32⟩
  | .hbm, ⟨8, _⟩ => ⟨S50x100x512, .f32⟩
  | .hbm, ⟨9, _⟩ => ⟨S5000x512, .f32⟩
  | .hbm, ⟨10, _⟩ => ⟨S_, .i32⟩
  | .hbm, ⟨11, _⟩ => ⟨S_, .f32⟩
  | .hbm, ⟨12, _⟩ => ⟨S5208x512, .f32⟩
  | .hbm, ⟨13, _⟩ => ⟨S5208x512, .bf16⟩
  | .hbm, ⟨14, _⟩ => ⟨S3x3x512x1024, .f32⟩
  | .hbm, ⟨15, _⟩ => ⟨S4608x1024, .f32⟩
  | .hbm, ⟨16, _⟩ => ⟨S4608x1024, .bf16⟩
  | .hbm, ⟨17, _⟩ => ⟨S18x1024, .f32⟩
  | .hbm, ⟨18, _⟩ => ⟨S36x1024, .f32⟩
  | .hbm, ⟨19, _⟩ => ⟨S54x1024, .f32⟩
  | .hbm, ⟨20, _⟩ => ⟨S_, .i32⟩
  | .hbm, ⟨21, _⟩ => ⟨S_, .f32⟩
  | .hbm, ⟨22, _⟩ => ⟨S64x1024, .f32⟩
  | .hbm, ⟨23, _⟩ => ⟨S1024x64, .f32⟩
  | .hbm, ⟨24, _⟩ => ⟨S1024x64, .bf16⟩
  | .hbm, ⟨25, _⟩ => ⟨S54, .f32⟩
  | .hbm, ⟨26, _⟩ => ⟨S_, .i32⟩
  | .hbm, ⟨27, _⟩ => ⟨S_, .f32⟩
  | .hbm, ⟨28, _⟩ => ⟨S64, .f32⟩
  | .hbm, ⟨29, _⟩ => ⟨S1x1024, .f32⟩
  | .hbm, ⟨30, _⟩ => ⟨S1x64, .f32⟩
  | .hbm, ⟨31, _⟩ => ⟨S5000x18, .f32⟩
  | .hbm, ⟨32, _⟩ => ⟨S5000x36, .f32⟩
  | .hbm, ⟨33, _⟩ => ⟨S45000x2, .f32⟩
  | .hbm, ⟨34, _⟩ => ⟨S45000x4, .f32⟩
  | .local _ .vmem, ⟨0, _⟩ => ⟨S5208x512, .bf16⟩
  | .local _ .vmem, ⟨1, _⟩ => ⟨S4608x1024, .bf16⟩
  | .local _ .vmem, ⟨2, _⟩ => ⟨S1024x64, .bf16⟩
  | .local _ .vmem, ⟨3, _⟩ => ⟨S1x1024, .f32⟩
  | .local _ .vmem, ⟨4, _⟩ => ⟨S1x64, .f32⟩
  | .local _ .vmem, ⟨5, _⟩ => ⟨S1000x18, .f32⟩
  | .local _ .vmem, ⟨6, _⟩ => ⟨S1000x18, .f32⟩
  | .local _ .vmem, ⟨7, _⟩ => ⟨S1000x36, .f32⟩
  | .local _ .vmem, ⟨8, _⟩ => ⟨S1000x36, .f32⟩
  | _, _ => ⟨S1x512x50x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c1000_i32 : BitVec 32 := 1000#32
  let v0 : BitVec 32 := Scalar.muli arg0 c1000_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5208x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x36 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x512x50x100 : Shape := ⟨4, ![1, 512, 50, 100]⟩
abbrev S1024x512x3x3 : Shape := ⟨4, ![1024, 512, 3, 3]⟩
abbrev S1024 : Shape := ⟨1, ![1024]⟩
abbrev S18x1024x1x1 : Shape := ⟨4, ![18, 1024, 1, 1]⟩
abbrev S18 : Shape := ⟨1, ![18]⟩
abbrev S36x1024x1x1 : Shape := ⟨4, ![36, 1024, 1, 1]⟩
abbrev S36 : Shape := ⟨1, ![36]⟩
abbrev S512x50x100 : Shape := ⟨3, ![512, 50, 100]⟩
abbrev S_ : Shape := ⟨0, ![]⟩
abbrev S512x52x102 : Shape := ⟨3, ![512, 52, 102]⟩
abbrev S1024x50x100 : Shape := ⟨3, ![1024, 50, 100]⟩
abbrev S1024x512x1x1 : Shape := ⟨4, ![1024, 512, 1, 1]⟩
abbrev S1024x512 : Shape := ⟨2, ![1024, 512]⟩
abbrev S1024x1x1 : Shape := ⟨3, ![1024, 1, 1]⟩
abbrev S1x1024x50x100 : Shape := ⟨4, ![1, 1024, 50, 100]⟩
abbrev S18x1024 : Shape := ⟨2, ![18, 1024]⟩
abbrev S18x50x100 : Shape := ⟨3, ![18, 50, 100]⟩
abbrev S18x1x1 : Shape := ⟨3, ![18, 1, 1]⟩
abbrev S1x18x50x100 : Shape := ⟨4, ![1, 18, 50, 100]⟩
abbrev S1x50x100x18 : Shape := ⟨4, ![1, 50, 100, 18]⟩
abbrev S1x45000x2 : Shape := ⟨3, ![1, 45000, 2]⟩
abbrev S36x1024 : Shape := ⟨2, ![36, 1024]⟩
abbrev S36x50x100 : Shape := ⟨3, ![36, 50, 100]⟩
abbrev S36x1x1 : Shape := ⟨3, ![36, 1, 1]⟩
abbrev S1x36x50x100 : Shape := ⟨4, ![1, 36, 50, 100]⟩
abbrev S1x50x100x36 : Shape := ⟨4, ![1, 50, 100, 36]⟩
abbrev S1x45000x4 : Shape := ⟨3, ![1, 45000, 4]⟩
abbrev S45000x2 : Shape := ⟨2, ![45000, 2]⟩
abbrev S45000 : Shape := ⟨1, ![45000]⟩
abbrev S45000x1 : Shape := ⟨2, ![45000, 1]⟩
abbrev S45000x4 : Shape := ⟨2, ![45000, 4]⟩

abbrev nBuf : Space → Nat
  | .hbm => 99
  | .vmem => 0
  | .smem => 0
  | _ => 0

abbrev bufTy : (tb : Table) → Fin (tcTables nBuf tb) → BufTy
  | .hbm, ⟨0, _⟩ => ⟨S1x512x50x100, .f32⟩
  | .hbm, ⟨1, _⟩ => ⟨S1024x512x3x3, .f32⟩
  | .hbm, ⟨2, _⟩ => ⟨S1024, .f32⟩
  | .hbm, ⟨3, _⟩ => ⟨S18x1024x1x1, .f32⟩
  | .hbm, ⟨4, _⟩ => ⟨S18, .f32⟩
  | .hbm, ⟨5, _⟩ => ⟨S36x1024x1x1, .f32⟩
  | .hbm, ⟨6, _⟩ => ⟨S36, .f32⟩
  | .hbm, ⟨7, _⟩ => ⟨S512x50x100, .f32⟩
  | .hbm, ⟨8, _⟩ => ⟨S_, .i32⟩
  | .hbm, ⟨9, _⟩ => ⟨S_, .f32⟩
  | .hbm, ⟨10, _⟩ => ⟨S512x52x102, .f32⟩
  | .hbm, ⟨11, _⟩ => ⟨S_, .f32⟩
  | .hbm, ⟨12, _⟩ => ⟨S1024x50x100, .f32⟩
  | .hbm, ⟨13, _⟩ => ⟨S1024x512x1x1, .f32⟩
  | .hbm, ⟨14, _⟩ => ⟨S1024x512, .f32⟩
  | .hbm, ⟨15, _⟩ => ⟨S512x50x100, .f32⟩
  | .hbm, ⟨16, _⟩ => ⟨S1024x50x100, .f32⟩
  | .hbm, ⟨17, _⟩ => ⟨S1024x50x100, .f32⟩
  | .hbm, ⟨18, _⟩ => ⟨S1024x512x1x1, .f32⟩
  | .hbm, ⟨19, _⟩ => ⟨S1024x512, .f32⟩
  | .hbm, ⟨20, _⟩ => ⟨S512x50x100, .f32⟩
  | .hbm, ⟨21, _⟩ => ⟨S1024x50x100, .f32⟩
  | .hbm, ⟨22, _⟩ => ⟨S1024x50x100, .f32⟩
  | .hbm, ⟨23, _⟩ => ⟨S1024x512x1x1, .f32⟩
  | .hbm, ⟨24, _⟩ => ⟨S1024x512, .f32⟩
  | .hbm, ⟨25, _⟩ => ⟨S512x50x100, .f32⟩
  | .hbm, ⟨26, _⟩ => ⟨S1024x50x100, .f32⟩
  | .hbm, ⟨27, _⟩ => ⟨S1024x50x100, .f32⟩
  | .hbm, ⟨28, _⟩ => ⟨S1024x512x1x1, .f32⟩
  | .hbm, ⟨29, _⟩ => ⟨S1024x512, .f32⟩
  | .hbm, ⟨30, _⟩ => ⟨S512x50x100, .f32⟩
  | .hbm, ⟨31, _⟩ => ⟨S1024x50x100, .f32⟩
  | .hbm, ⟨32, _⟩ => ⟨S1024x50x100, .f32⟩
  | .hbm, ⟨33, _⟩ => ⟨S1024x512x1x1, .f32⟩
  | .hbm, ⟨34, _⟩ => ⟨S1024x512, .f32⟩
  | .hbm, ⟨35, _⟩ => ⟨S512x50x100, .f32⟩
  | .hbm, ⟨36, _⟩ => ⟨S1024x50x100, .f32⟩
  | .hbm, ⟨37, _⟩ => ⟨S1024x50x100, .f32⟩
  | .hbm, ⟨38, _⟩ => ⟨S1024x512x1x1, .f32⟩
  | .hbm, ⟨39, _⟩ => ⟨S1024x512, .f32⟩
  | .hbm, ⟨40, _⟩ => ⟨S512x50x100, .f32⟩
  | .hbm, ⟨41, _⟩ => ⟨S1024x50x100, .f32⟩
  | .hbm, ⟨42, _⟩ => ⟨S1024x50x100, .f32⟩
  | .hbm, ⟨43, _⟩ => ⟨S1024x512x1x1, .f32⟩
  | .hbm, ⟨44, _⟩ => ⟨S1024x512, .f32⟩
  | .hbm, ⟨45, _⟩ => ⟨S512x50x100, .f32⟩
  | .hbm, ⟨46, _⟩ => ⟨S1024x50x100, .f32⟩
  | .hbm, ⟨47, _⟩ => ⟨S1024x50x100, .f32⟩
  | .hbm, ⟨48, _⟩ => ⟨S1024x512x1x1, .f32⟩
  | .hbm, ⟨49, _⟩ => ⟨S1024x512, .f32⟩
  | .hbm, ⟨50, _⟩ => ⟨S512x50x100, .f32⟩
  | .hbm, ⟨51, _⟩ => ⟨S1024x50x100, .f32⟩
  | .hbm, ⟨52, _⟩ => ⟨S1024x50x100, .f32⟩
  | .hbm, ⟨53, _⟩ => ⟨S1024x512x1x1, .f32⟩
  | .hbm, ⟨54, _⟩ => ⟨S1024x512, .f32⟩
  | .hbm, ⟨55, _⟩ => ⟨S512x50x100, .f32⟩
  | .hbm, ⟨56, _⟩ => ⟨S1024x50x100, .f32⟩
  | .hbm, ⟨57, _⟩ => ⟨S1024x50x100, .f32⟩
  | .hbm, ⟨58, _⟩ => ⟨S1024x1x1, .f32⟩
  | .hbm, ⟨59, _⟩ => ⟨S1024x50x100, .f32⟩
  | .hbm, ⟨60, _⟩ => ⟨S1024x50x100, .f32⟩
  | .hbm, ⟨61, _⟩ => ⟨S1x1024x50x100, .f32⟩
  | .hbm, ⟨62, _⟩ => ⟨S_, .f32⟩
  | .hbm, ⟨63, _⟩ => ⟨S1x1024x50x100, .f32⟩
  | .hbm, ⟨64, _⟩ => ⟨S1x1024x50x100, .f32⟩
  | .hbm, ⟨65, _⟩ => ⟨S18x1024, .f32⟩
  | .hbm, ⟨66, _⟩ => ⟨S1024x50x100, .f32⟩
  | .hbm, ⟨67, _⟩ => ⟨S18x50x100, .f32⟩
  | .hbm, ⟨68, _⟩ => ⟨S18x1x1, .f32⟩
  | .hbm, ⟨69, _⟩ => ⟨S18x50x100, .f32⟩
  | .hbm, ⟨70, _⟩ => ⟨S18x50x100, .f32⟩
  | .hbm, ⟨71, _⟩ => ⟨S1x18x50x100, .f32⟩
  | .hbm, ⟨72, _⟩ => ⟨S1x50x100x18, .f32⟩
  | .hbm, ⟨73, _⟩ => ⟨S1x45000x2, .f32⟩
  | .hbm, ⟨74, _⟩ => ⟨S36x1024, .f32⟩
  | .hbm, ⟨75, _⟩ => ⟨S1024x50x100, .f32⟩
  | .hbm, ⟨76, _⟩ => ⟨S36x50x100, .f32⟩
  | .hbm, ⟨77, _⟩ => ⟨S36x1x1, .f32⟩
  | .hbm, ⟨78, _⟩ => ⟨S36x50x100, .f32⟩
  | .hbm, ⟨79, _⟩ => ⟨S36x50x100, .f32⟩
  | .hbm, ⟨80, _⟩ => ⟨S1x36x50x100, .f32⟩
  | .hbm, ⟨81, _⟩ => ⟨S1x50x100x36, .f32⟩
  | .hbm, ⟨82, _⟩ => ⟨S1x45000x4, .f32⟩
  | .hbm, ⟨83, _⟩ => ⟨S45000x2, .f32⟩
  | .hbm, ⟨84, _⟩ => ⟨S_, .f32⟩
  | .hbm, ⟨85, _⟩ => ⟨S45000, .f32⟩
  | .hbm, ⟨86, _⟩ => ⟨S_, .f32⟩
  | .hbm, ⟨87, _⟩ => ⟨S45000, .f32⟩
  | .hbm, ⟨88, _⟩ => ⟨S45000, .f32⟩
  | .hbm, ⟨89, _⟩ => ⟨S45000x1, .f32⟩
  | .hbm, ⟨90, _⟩ => ⟨S45000x2, .f32⟩
  | .hbm, ⟨91, _⟩ => ⟨S45000x2, .f32⟩
  | .hbm, ⟨92, _⟩ => ⟨S45000x2, .f32⟩
  | .hbm, ⟨93, _⟩ => ⟨S_, .f32⟩
  | .hbm, ⟨94, _⟩ => ⟨S45000, .f32⟩
  | .hbm, ⟨95, _⟩ => ⟨S45000x1, .f32⟩
  | .hbm, ⟨96, _⟩ => ⟨S45000x2, .f32⟩
  | .hbm, ⟨97, _⟩ => ⟨S45000x2, .f32⟩
  | .hbm, ⟨98, _⟩ => ⟨S45000x4, .f32⟩
  | _, _ => ⟨S1x512x50x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call1_cst : Ref sig .tc := ⟨.hbm, 62, rfl⟩
abbrev main_call1_v0 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_0 : Ref sig .tc := ⟨.hbm, 84, rfl⟩
abbrev main_v72 : Ref sig .tc := ⟨.hbm, 85, rfl⟩
abbrev main_cst_1 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_2 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩

abbrev nD : Nat := 1
abbrev τ : Topo := Topo.v7x

variable {F : FTy → Type} [FloatOps F]
-- ==== Proof.Spec.lean ====
module

public import Idealize.ShloMosaic.Lib.Pointwise

@[expose] public section

/-! # The mathematics of the region proposal head

The kernel and the reference both compute the functions defined here, over the ideal numbers: a 3x3
convolution with bias and rectifier, a 1x1 convolution with bias, and the softmax of each pair of
neighbouring channels. -/

noncomputable section

namespace RpnSpec

open Idealize.ShloMosaic

/-- The feature map: one image of 512 channels of 50 by 100 pixels. -/
abbrev Feat := FVec Ideal ⟨4, ![1, 512, 50, 100]⟩ .f32

/-- The weights of the 3x3 convolution, from 512 channels to 1024. -/
abbrev Conv := FVec Ideal ⟨4, ![1024, 512, 3, 3]⟩ .f32

/-- The bias of the 3x3 convolution. -/
abbrev Bias := FVec Ideal ⟨1, ![1024]⟩ .f32

/-- The weights of a 1x1 convolution to `n` channels. -/
abbrev HeadW (n : ℕ) := FVec Ideal ⟨4, ![n, 1024, 1, 1]⟩ .f32

/-- The bias of a 1x1 convolution to `n` channels. -/
abbrev HeadB (n : ℕ) := FVec Ideal ⟨1, ![n]⟩ .f32

/-- The feature map `x` with one row and one column of zeros on every side, read at padded
coordinates `a` and `b`. -/
def padded (x : Feat) (c : Fin 512) (a b : ℕ) : EReal :=
  if h : (1 ≤ a ∧ a - 1 < 50) ∧ (1 ≤ b ∧ b - 1 < 100) then
    x (ix4 0 c ⟨a - 1, h.1.2⟩ ⟨b - 1, h.2.2⟩) else 0

/-- One of the nine products of the 3x3 convolution: output channel `k` at row `h` and column `q`,
kernel position `(u, v)`, summed over the input channels. -/
def tap (x : Feat) (w : Conv) (h q : ℕ) (k : Fin 1024) (u v : Fin 3) : EReal :=
  ∑ c : Fin 512, padded x c (h + u.val) (q + v.val) * w (ix4 k c u v)

/-- The hidden layer at output channel `k`, row `h` and column `q`: the nine products added
from the first kernel position to the last, the bias added, and the rectifier applied. -/
def hiddenLayer (x : Feat) (w : Conv) (b : Bias) (h q : ℕ) (k : Fin 1024) : EReal :=
  max (tap x w h q k 0 0 + tap x w h q k 0 1 + tap x w h q k 0 2
    + tap x w h q k 1 0 + tap x w h q k 1 1 + tap x w h q k 1 2
    + tap x w h q k 2 0 + tap x w h q k 2 1 + tap x w h q k 2 2 + b (ix1 k)) 0

/-- Channel `n` of a 1x1 convolution of the hidden layer, at row `h` and column `q`. -/
def logit {N : ℕ} (x : Feat) (w : Conv) (b : Bias) (v : HeadW N) (d : HeadB N) (h q : ℕ)
    (n : Fin N) : EReal :=
  (∑ k : Fin 1024, hiddenLayer x w b h q k * v (ix4 n k 0 0)) + d (ix1 n)

/-- The integer zero the padding is converted from is the number zero. -/
theorem padding_zero : (FloatOps.sitofp (F := Ideal) .f32 0#32 : EReal) = 0 := by
  simp [FloatOps.sitofp]

/-- The softmax of the pair of numbers `s` and `t`, at `s`. -/
def pair (s t : EReal) : EReal :=
  Ideal.div (Ideal.exp (s - max s t)) (Ideal.exp (s - max s t) + Ideal.exp (t - max s t))

/-- The channel a channel is paired with: the next one for an even channel, the previous one for an
odd channel. -/
def partner (k : Fin 18) : Fin 18 :=
  ⟨if k.val % 2 = 0 then k.val + 1 else k.val - 1, by have := k.isLt; split <;> omega⟩

/-- The score of channel `n` at row `h` and column `q`: its logit in the softmax with its partner's. -/
def score (x : Feat) (w : Conv) (b : Bias) (v : HeadW 18) (d : HeadB 18) (h q : ℕ) (n : Fin 18) :
    EReal :=
  pair (logit x w b v d h q n) (logit x w b v d h q (partner n))

end RpnSpec

end
-- ==== Proof.Body.lean ====
module

public import proofs.«01_k».proof.Proof.Gen.KernelIdeal.Skeleton
public import proofs.«01_k».proof.Proof.Spec
public import Idealize.ShloMosaic.Lib.Pointwise

@[expose] public section

/-! # What the body of the kernel computes

The body takes 1208 rows of the flattened and padded feature map, the nine slabs of weights, the bias
and the weights and bias of the two heads. Its values are read at an index here and shown to be the
functions of `RpnSpec`. Pixel `n` of the map, in row-major order, is row `n / 100` and column `n % 100`. -/

set_option maxRecDepth 16384

noncomputable section

namespace Cert.KernelIdeal.RpnBody

open Cert.KernelIdeal Cert.KernelIdeal.Gen Idealize.ShloMosaic RpnSpec

/-- The flattened feature map with 104 rows of zeros before it and zeros after it. -/
def flat (x : Feat) (n : ℕ) (c : Fin 512) : EReal :=
  if h : 104 ≤ n ∧ n - 104 < 5000 then
    x (ix4 0 c ⟨(n - 104) / 100, by omega⟩ ⟨(n - 104) % 100, by omega⟩) else 0

/-- Away from the columns of padding, the padded map is the flattened one, 100 entries to a row. -/
theorem padded_inside (x : Feat) (c : Fin 512) (n u v : ℕ)
    (hv : 1 ≤ n % 100 + v ∧ n % 100 + v - 1 < 100) :
    padded x c (n / 100 + u) (n % 100 + v) = flat x (n + 100 * u + v + 3) c := by
  rw [padded, flat]
  by_cases h : 1 ≤ n / 100 + u ∧ n / 100 + u - 1 < 50
  · rw [dif_pos ⟨h, hv⟩, dif_pos (by omega)]
    congr 1
    congr 1
    · exact Fin.ext (by show n / 100 + u - 1 = (n + 100 * u + v + 3 - 104) / 100; omega)
    · exact Fin.ext (by show n % 100 + v - 1 = (n + 100 * u + v + 3 - 104) % 100; omega)
  · rw [dif_neg (fun g => h g.1), dif_neg (by omega)]

/-- On a column of padding, the padded map is zero. -/
theorem padded_outside (x : Feat) (c : Fin 512) (a b : ℕ) (hb : ¬(1 ≤ b ∧ b - 1 < 100)) :
    padded x c a b = 0 := by
  rw [padded, dif_neg (fun g => hb g.2)]

/-- The column of a pixel, which the body computes as its row number modulo 100. -/
theorem column_eq (r : Fin 1000) (c : Fin 512) :
    k0_pay4 (ix2 r c) = BitVec.ofNat 32 (r.val % 100) := by
  pointwise [k0_pay4]
  revert r
  decide +kernel

/-- The body's test for the first column. -/
theorem first_column (r : Fin 1000) (c : Fin 512) (s : EReal) :
    Scalar.select (IntOp.cmpi .eq (k0_pay4 (ix2 r c)) 0#32) 0 s
      = if r.val % 100 = 0 then 0 else s := by
  have h : ∀ r : Fin 1000, IntOp.cmpi .eq (BitVec.ofNat 32 (r.val % 100)) 0#32
      = if r.val % 100 = 0 then 1#1 else 0#1 := by decide +kernel
  rw [column_eq, h]
  split <;> rfl

/-- The body's test for the last column. -/
theorem last_column (r : Fin 1000) (c : Fin 512) (s : EReal) :
    Scalar.select (IntOp.cmpi .eq (k0_pay4 (ix2 r c)) 99#32) 0 s
      = if r.val % 100 = 99 then 0 else s := by
  have h : ∀ r : Fin 1000, IntOp.cmpi .eq (BitVec.ofNat 32 (r.val % 100)) 99#32
      = if r.val % 100 = 99 then 1#1 else 0#1 := by decide +kernel
  rw [column_eq, h]
  split <;> rfl

/-- What the body reads of the feature map and of the 3x3 weights at step `t`: rows from `1000 t` on
of the flattened map, and the nine slabs, one for each kernel position. -/
structure Reads (x : Feat) (w : Conv) (t : ℕ) (L : Vec Ideal S1208x512 .bf16)
    (W : Fin 3 → Fin 3 → Vec Ideal S512x1024 .bf16) : Prop where
  rows : ∀ a c, L (ix2 a c) = flat x (1000 * t + a.val) c
  slab : ∀ u v c k, W u v (ix2 c k) = w (ix4 k c u v)

section taps

variable {x : Feat} {w : Conv} {t : ℕ} {L : Vec Ideal S1208x512 .bf16}
  {W : Fin 3 → Fin 3 → Vec Ideal S512x1024 .bf16} (H : Reads x w t L W)
include H

/-- A product over a kernel position of the middle column. -/
theorem tap_middle (r : Fin 1000) (k : Fin 1024) (u : Fin 3) (a : Fin 1208)
    (ha : a.val = 100 * u.val + 4 + r.val) :
    (∑ c : Fin 512, L (ix2 a c) * W u 1 (ix2 c k))
      = tap x w ((1000 * t + r.val) / 100) ((1000 * t + r.val) % 100) k u 1 := by
  rw [tap]
  refine Finset.sum_congr rfl fun c _ => ?_
  rw [H.rows, H.slab, padded_inside x c _ _ _ (by show 1 ≤ _ + 1 ∧ _ + 1 - 1 < 100; omega), ha]
  congr 2
  show _ = 1000 * t + r.val + 100 * u.val + 1 + 3
  omega

/-- A product over a kernel position of the left column: the body drops it in the first column. -/
theorem tap_left (r : Fin 1000) (k : Fin 1024) (u : Fin 3) (a : Fin 1208)
    (ha : a.val = 100 * u.val + 3 + r.val) :
    (∑ c : Fin 512, Scalar.select (IntOp.cmpi .eq (k0_pay4 (ix2 r c)) 0#32) 0
        (L (ix2 a c) * W u 0 (ix2 c k)))
      = tap x w ((1000 * t + r.val) / 100) ((1000 * t + r.val) % 100) k u 0 := by
  rw [tap]
  refine Finset.sum_congr rfl fun c _ => ?_
  rw [first_column, H.rows, H.slab, ha]
  split
  · rw [padded_outside x c _ _ (by show ¬(1 ≤ _ + 0 ∧ _); omega), zero_mul]
  · rw [padded_inside x c _ _ _ (by show 1 ≤ _ + 0 ∧ _ + 0 - 1 < 100; omega)]
    congr 2
    show _ = 1000 * t + r.val + 100 * u.val + 0 + 3
    omega

/-- A product over a kernel position of the right column: the body drops it in the last column. -/
theorem tap_right (r : Fin 1000) (k : Fin 1024) (u : Fin 3) (a : Fin 1208)
    (ha : a.val = 100 * u.val + 5 + r.val) :
    (∑ c : Fin 512, Scalar.select (IntOp.cmpi .eq (k0_pay4 (ix2 r c)) 99#32) 0
        (L (ix2 a c) * W u 2 (ix2 c k)))
      = tap x w ((1000 * t + r.val) / 100) ((1000 * t + r.val) % 100) k u 2 := by
  rw [tap]
  refine Finset.sum_congr rfl fun c _ => ?_
  rw [last_column, H.rows, H.slab, ha]
  split
  · rw [padded_outside x c _ _ (by show ¬(1 ≤ _ + 2 ∧ _ + 2 - 1 < 100); omega), zero_mul]
  · rw [padded_inside x c _ _ _ (by show 1 ≤ _ + 2 ∧ _ + 2 - 1 < 100; omega)]
    congr 2
    show _ = 1000 * t + r.val + 100 * u.val + 2 + 3
    omega

end taps

/-- The two heads together as the body computes them, from what it reads. -/
def raw (L : Vec Ideal S1208x512 .bf16) (W : Fin 3 → Fin 3 → Vec Ideal S512x1024 .bf16)
    (b : Vec Ideal S1x1024 .f32) (v : Vec Ideal S1024x64 .bf16) (d : Vec Ideal S1x64 .f32) :
    FVec Ideal S1000x64 .f32 :=
  k0_pay11 (k0_pay3 L) k0_pay4
    (k0_pay9 (k0_pay3 L) k0_pay4 (k0_pay5 L (W 0 0) (W 0 1)) (k0_pay6 L) k0_pay7 k0_pay8
      (W 0 2) (W 1 0) (W 1 1) (W 1 2) (W 2 0))
    (k0_pay10 (k0_pay3 L)) (W 2 1) (W 2 2) b v d

/-- The body's two heads at row `r` and channel `n`: the hidden layer at pixel `1000 t + r` times
the weights of the channel, and its bias. -/
theorem raw_eq {x : Feat} {w : Conv} {t : ℕ} {L : Vec Ideal S1208x512 .bf16}
    {W : Fin 3 → Fin 3 → Vec Ideal S512x1024 .bf16} (H : Reads x w t L W)
    (b : Bias) (b' : Vec Ideal S1x1024 .f32) (hb : ∀ k, b' (ix2 0 k) = b (ix1 k))
    (v : Vec Ideal S1024x64 .bf16) (d : Vec Ideal S1x64 .f32) (r : Fin 1000) (n : Fin 64) :
    raw L W b' v d (ix2 r n)
      = (∑ k : Fin 1024, hiddenLayer x w b ((1000 * t + r.val) / 100) ((1000 * t + r.val) % 100) k
          * v (ix2 k n)) + d (ix2 0 n) := by
  pointwise [raw, k0_pay11, k0_pay9, k0_pay10, k0_pay5, k0_pay6, k0_pay7, k0_pay8, k0_pay3]
  refine congrArg (· + _) (Finset.sum_congr rfl fun k _ => congrArg (· * _) ?_)
  rw [hiddenLayer, hb]
  rw [tap_left H r k 0 ⟨3 + r.val, by omega⟩ rfl,
    tap_middle H r k 0 ⟨4 + r.val, by omega⟩ rfl,
    tap_right H r k 0 ⟨5 + r.val, by omega⟩ rfl,
    tap_left H r k 1 ⟨103 + r.val, by omega⟩ rfl,
    tap_middle H r k 1 ⟨104 + r.val, by omega⟩ rfl,
    tap_right H r k 1 ⟨105 + r.val, by omega⟩ rfl,
    tap_left H r k 2 ⟨203 + r.val, by omega⟩ rfl,
    tap_middle H r k 2 ⟨204 + r.val, by omega⟩ rfl,
    tap_right H r k 2 ⟨205 + r.val, by omega⟩ rfl]

/-- The body's test for an even channel, on the channel's number. -/
def evenBit (n : ℕ) : BitVec 1 :=
  let m := IntOp.remsi .vector (BitVec.ofNat 32 n)
    (Scalar.select (Scalar.cmpi .eq 2#32 0#32) 1#32 2#32)
  IntOp.cmpi .eq (Scalar.select (IntOp.andi (IntOp.xori (IntOp.cmpi .slt m 0#32) 0#1)
    (IntOp.cmpi .ne m 0#32)) (IntOp.addi m 2#32) m) 0#32

/-- The body's test holds of the even channels. -/
theorem evenBit_eq : ∀ n : Fin 18, evenBit n.val = if n.val % 2 = 0 then 1#1 else 0#1 := by
  decide +kernel

/-- The body's class scores: the softmax of each channel with its partner. -/
theorem scores_eq (f : FVec Ideal S1000x64 .f32) (r : Fin 1000) (n : Fin 18) :
    k0_pay1 f (2#32) k0_pay12 k0_pay13 k0_pay14 (0#1) (ix2 r n)
      = pair (f (ix2 r (n.castLE (by omega)))) (f (ix2 r ((partner n).castLE (by omega)))) := by
  pointwise [k0_pay1, k0_pay12, k0_pay13, k0_pay14]
  refine Eq.trans (?_ : _ = pair (f (ix2 r ⟨n.val, by omega⟩))
    (Scalar.select (evenBit n.val)
      (if h : n.val < 63 then f (ix2 r ⟨1 + n.val, by omega⟩) else f (ix2 r ⟨n.val - 63, by omega⟩))
      (if h : n.val < 1 then f (ix2 r ⟨63 + n.val, by omega⟩) else f (ix2 r ⟨n.val - 1, by omega⟩))))
    (congrArg₂ pair rfl ?_)
  · rfl
  · rw [evenBit_eq]
    by_cases hn : n.val % 2 = 0
    · rw [if_pos hn, dif_pos (by omega)]
      refine congrArg f (congrArg (ix2 r) (Fin.ext ?_))
      show 1 + n.val = if n.val % 2 = 0 then n.val + 1 else n.val - 1
      rw [if_pos hn, Nat.add_comm]
    · rw [if_neg hn, dif_neg (by omega : ¬n.val < 1)]
      refine congrArg f (congrArg (ix2 r) (Fin.ext ?_))
      show n.val - 1 = if n.val % 2 = 0 then n.val + 1 else n.val - 1
      rw [if_neg hn]

/-- The body's regression results: the channels after the first 18. -/
theorem regs_eq (f : FVec Ideal S1000x64 .f32) (r : Fin 1000) (n : Fin 36) :
    k0_pay2 f (ix2 r n) = f (ix2 r ⟨18 + n.val, by have := n.isLt; omega⟩) := by
  pointwise [k0_pay2]

end Cert.KernelIdeal.RpnBody

end
-- ==== Proof.Host.lean ====
module

public import proofs.«01_k».proof.Proof.Gen.KernelIdeal.Frame
public import proofs.«01_k».proof.Proof.Body
public import Idealize.ShloMosaic.Lib.Pointwise
public import Idealize.ShloMosaic.Lib.Claim

@[expose] public section

/-! # What the host hands the kernel

The five arrays the host prepares before the launch, each as the host's operations of the arguments,
and each read at an index. -/

set_option maxRecDepth 16384

noncomputable section

namespace Cert.KernelIdeal.RpnHost

open Cert.KernelIdeal Cert.KernelIdeal.Gen Idealize.ShloMosaic Idealize.ShloMosaic.TcCoe
open Idealize.SL.Sem RpnSpec RpnBody

/-- The feature map with the channels last, flattened, and padded with rows of zeros. -/
def hostX (x : Feat) : FVec Ideal S5208x512 .bf16 :=
  truncf .bf16 (pad S5208x512 ![104, 0] ![104, 0] ![0, 0]
    (shapeCast S5000x512 (transpose S50x100x512 [1, 2, 0]
      (shapeCast S512x50x100 x shapeCasts_S1x512x50x100_S512x50x100)
      transposes_S512x50x100_S50x100x512_1_2_0) shapeCasts_S50x100x512_S5000x512)
    (sitofp (F := Ideal) .f32 (constantI S_ 32 0#32))
    pads_S5000x512_S5208x512_1041040_000 h_S_) bitsLt_bf16_f32

/-- The 3x3 weights as nine slabs of input channels by output channels, one below the other. -/
def hostW (w : Conv) : FVec Ideal S4608x1024 .bf16 :=
  truncf .bf16 (shapeCast S4608x1024 (transpose S3x3x512x1024 [2, 3, 1, 0] w
    transposes_S1024x512x3x3_S3x3x512x1024_2_3_1_0) shapeCasts_S3x3x512x1024_S4608x1024)
    bitsLt_bf16_f32

/-- The weights of the two heads side by side, with ten columns of zeros after them. -/
def hostV (v : HeadW 18) (v' : HeadW 36) : FVec Ideal S1024x64 .bf16 :=
  truncf .bf16 (transpose S1024x64 [1, 0] (pad S64x1024 ![0, 0] ![10, 0] ![0, 0]
    (concatenate S54x1024 0
      [⟨S18x1024, shapeCast S18x1024 v shapeCasts_S18x1024x1x1_S18x1024⟩,
        ⟨S36x1024, shapeCast S36x1024 v' shapeCasts_S36x1024x1x1_S36x1024⟩]
      concatenates_S18x1024_S36x1024_S54x1024_d0)
    (sitofp (F := Ideal) .f32 (constantI S_ 32 0#32)) pads_S54x1024_S64x1024_0100_000 h_S_)
    transposes_S64x1024_S1024x64_1_0) bitsLt_bf16_f32

/-- The bias of the 3x3 convolution as one row. -/
def hostB (b : Bias) : FVec Ideal S1x1024 .f32 :=
  broadcastInDim S1x1024 ![1] bcast_S1024_S1x1024_1 b

/-- The biases of the two heads one after the other, with ten zeros after them, as one row. -/
def hostD (d : HeadB 18) (d' : HeadB 36) : FVec Ideal S1x64 .f32 :=
  broadcastInDim S1x64 ![1] bcast_S64_S1x64_1 (pad S64 ![0] ![10] ![0]
    (concatenate S54 0 [⟨S18, d⟩, ⟨S36, d'⟩] concatenates_S18_S36_S54_d0)
    (sitofp (F := Ideal) .f32 (constantI S_ 32 0#32)) pads_S54_S64_0100 h_S_)

/-- At the launch, the five arrays the kernel reads hold what the host computed of the arguments. -/
theorem arrays_eq (m : (ℓ : Loc nD τ sig) → Buf (Elt Ideal) ℓ) (c : Dev nD) :
    V m c main_v4 = hostX (m ((c : Thread nD τ).loc main_arg0))
      ∧ V m c main_v7 = hostW (m ((c : Thread nD τ).loc main_arg1))
      ∧ V m c main_v13 = hostV (m ((c : Thread nD τ).loc main_arg3))
          (m ((c : Thread nD τ).loc main_arg5))
      ∧ V m c main_v16 = hostB (m ((c : Thread nD τ).loc main_arg2))
      ∧ V m c main_v17 = hostD (m ((c : Thread nD τ).loc main_arg4))
          (m ((c : Thread nD τ).loc main_arg6)) := by
  refine ⟨?_, ?_, ?_, ?_, ?_⟩ <;> unfold_abbrev_sides <;>
  simp only [hostOps0, hostOps0_1, hostOps0_2, hostOps0_3, hostOps0_4, hostOps0_5, hostOps0_6,
    List.flatten_cons, List.flatten_nil, List.append_nil, List.cons_append, List.nil_append,
    StableHlo.TRef.binary, StableHlo.TRef.nullary, StableHlo.TRef.unary, StableHlo.TRef.toBuf,
    StableHlo.TRef.ofBuf, cast_eq] <;>
  after_results_simp <;> rfl

/-- The host's feature map is the flattened and padded one. -/
theorem hostX_apply (x : Feat) (q : Fin 5208) (c : Fin 512) :
    hostX x (ix2 q c) = flat x q.val c := by
  pointwise [hostX]
  exact dite_congr rfl (fun _ => rfl) fun _ => padding_zero

/-- Slab `(u, v)` of the host's 3x3 weights starts at row `512 (3 u + v)`. -/
theorem hostW_apply (w : Conv) (u v : Fin 3) (c : Fin 512) (k : Fin 1024) (q : Fin 4608)
    (hq : q.val = 512 * (3 * u.val + v.val) + c.val) :
    hostW w (ix2 q k) = w (ix4 k c u v) := by
  pointwise [hostW]
  congr 1
  congr 1
  · exact Fin.ext (by show q.val % 512 = c.val; omega)
  · exact Fin.ext (by show q.val / 1536 = u.val; omega)
  · exact Fin.ext (by show q.val / 512 % 3 = v.val; omega)

/-- The first 18 columns of the host's head weights are the class head's. -/
theorem hostV_cls (v : HeadW 18) (v' : HeadW 36) (k : Fin 1024) (n : Fin 18) :
    hostV v v' (ix2 k (n.castLE (by omega))) = v (ix4 n k 0 0) := by
  pointwise [hostV]
  exact (dif_pos (show n.val < 54 by omega)).trans (dif_pos n.isLt)

/-- The next 36 columns of the host's head weights are the regression head's. -/
theorem hostV_reg (v : HeadW 18) (v' : HeadW 36) (k : Fin 1024) (n : Fin 36) :
    hostV v v' (ix2 k ⟨18 + n.val, by omega⟩) = v' (ix4 n k 0 0) := by
  pointwise [hostV]
  exact dif_pos (show 18 + n.val < 54 by omega)

/-- The host's bias row is the bias. -/
theorem hostB_apply (b : Bias) (k : Fin 1024) : hostB b (ix2 0 k) = b (ix1 k) := by
  pointwise [hostB]

/-- The first 18 entries of the host's head biases are the class head's. -/
theorem hostD_cls (d : HeadB 18) (d' : HeadB 36) (n : Fin 18) :
    hostD d d' (ix2 0 (n.castLE (by omega))) = d (ix1 n) := by
  pointwise [hostD]
  exact (dif_pos (show n.val < 54 by omega)).trans (dif_pos n.isLt)

/-- The next 36 entries of the host's head biases are the regression head's. -/
theorem hostD_reg (d : HeadB 18) (d' : HeadB 36) (n : Fin 36) :
    hostD d d' (ix2 0 ⟨18 + n.val, by omega⟩) = d' (ix1 n) := by
  pointwise [hostD]
  exact dif_pos (show 18 + n.val < 54 by omega)

end Cert.KernelIdeal.RpnHost

end
-- ==== Proof.Value.lean ====
module

public import proofs.«01_k».proof.Proof.Host
public import Idealize.ShloMosaic.Lib.Pipeline.ValueKit

@[expose] public section

/-! # What the kernel leaves in its results

Each of the five steps of the kernel writes 1000 rows of the two output arrays. The arrays are shown
to hold the scores and the regression logits of every pixel, and the two results of the program are
these arrays reshaped. -/

set_option maxRecDepth 16384

noncomputable section

namespace Cert.KernelIdeal.RpnValue

open Cert.KernelIdeal Cert.KernelIdeal.Gen Idealize.ShloMosaic Idealize.ShloMosaic.TcCoe
open Idealize.SL.Sem RpnSpec RpnBody RpnHost

/-- The scores of all pixels, one row to a pixel. -/
def scores (x : Feat) (w : Conv) (b : Bias) (v : HeadW 18) (d : HeadB 18) :
    FVec Ideal S5000x18 .f32 :=
  fun j => score x w b v d ((j 0).val / 100) ((j 0).val % 100) (j 1)

/-- The regression logits of all pixels, one row to a pixel. -/
def regs (x : Feat) (w : Conv) (b : Bias) (v : HeadW 36) (d : HeadB 36) :
    FVec Ideal S5000x36 .f32 :=
  fun j => logit x w b v d ((j 0).val / 100) ((j 0).val % 100) (j 1)

/-- Where each window's block lies at a step, and the row of the feature map the body starts at. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![t.val, 0] ∧ win0_6.index t = ![t.val, 0]
    ∧ k0_off1 (grid0.coords t) = ![1000 * t.val, 0] :=
  (by decide +kernel : ∀ t : Fin grid0.N, _)

/-- The grid has five steps. -/
theorem step_lt (t : Fin cfg0.N) : t.val < 5 := t.isLt

variable (m : (ℓ : Loc nD τ sig) → Buf (Elt Ideal) ℓ) (c : Dev nD) (t : Fin cfg0.N)

/-- The rows of the feature map the body loads at step `t`. -/
theorem load_rows (h) (a : Fin 1208) (k : Fin 512) :
    (View.ld (iblk m c 0 t) (Rect.unit (k0_off1 (grid0.coords t)) ![1208, 512] h) :
        Vec Ideal S1208x512 .bf16) (ix2 a k)
      = V m c main_v4 (ix2 ⟨1000 * t.val + a.val, by have := step_lt t; omega⟩ k) := by
  blk_point [iblk, idx t]

/-- The weights of the 3x3 convolution the body loads from. -/
theorem load_weights (a : Fin 4608) (k : Fin 1024) :
    (iblk m c 1 t : Vec Ideal S4608x1024 .bf16) (ix2 a k) = V m c main_v7 (ix2 a k) := by
  blk_point [iblk, idx t]

omit m c t in
/-- A load of 512 rows of an array of weights, read at an index. -/
theorem load_slab (B : Vec Ideal S4608x1024 .bf16) (o : ℕ)
    (h : ∀ a, (![o, 0] : Fin 2 → ℕ) a + ![512, 1024] a ≤ S4608x1024.size a)
    (a : Fin 512) (k : Fin 1024) :
    (View.ld B (Rect.unit (s := S4608x1024) ![o, 0] ![512, 1024] h) :
        Vec Ideal S512x1024 .bf16) (ix2 a k)
      = B (ix2 ⟨o + a.val, by
          have : o + 512 ≤ 4608 := h 0
          omega⟩ k) := by
  refine congrArg B ((ix2_eta _).symm.trans (congrArg₂ ix2 (Fin.ext ?_) (Fin.ext ?_)))
  · show o + 1 * a.val = o + a.val
    omega
  · show 0 + 1 * k.val = k.val
    omega

/-- The weights of the two heads the body loads. -/
theorem load_heads (a : Fin 1024) (k : Fin 64) :
    (iblk m c 2 t : Vec Ideal S1024x64 .bf16) (ix2 a k) = V m c main_v13 (ix2 a k) := by
  blk_point [iblk, idx t]

/-- The bias of the 3x3 convolution the body loads. -/
theorem load_bias (k : Fin 1024) :
    (iblk m c 3 t : Vec Ideal S1x1024 .f32) (ix2 0 k) = V m c main_v16 (ix2 0 k) := by
  blk_point [iblk, idx t]

/-- The biases of the two heads the body loads. -/
theorem load_head_biases (k : Fin 64) :
    (iblk m c 4 t : Vec Ideal S1x64 .f32) (ix2 0 k) = V m c main_v17 (ix2 0 k) := by
  blk_point [iblk, idx t]

/-- Where a block of the first output lies in its array. -/
theorem place_scores (y : S1000x18.Idx) :
    ((View.whole main_v18_0).slice (win0_5.rect t)).emb y
      = ix2 (⟨1000 * t.val + (y 0).val, by
          have := step_lt t
          have : (y 0).val < 1000 := (y 0).isLt
          omega⟩ : Fin 5000) (y 1) := by
  blk_ext [idx t]

/-- Where a block of the second output lies in its array. -/
theorem place_regs (y : S1000x36.Idx) :
    ((View.whole main_v18_1).slice (win0_6.rect t)).emb y
      = ix2 (⟨1000 * t.val + (y 0).val, by
          have := step_lt t
          have : (y 0).val < 1000 := (y 0).isLt
          omega⟩ : Fin 5000) (y 1) := by
  blk_ext [idx t]

omit m c t in
/-- The slab of a kernel position lies inside the array of weights. -/
theorem slab_inside (u v : Fin 3) (a : Fin 2) :
    (![512 * (3 * u.val + v.val), 0] : Fin 2 → ℕ) a + ![512, 1024] a ≤ S4608x1024.size a := by
  revert a
  refine Fin.forall_fin_two.2 ⟨?_, le_refl 1024⟩
  show 512 * (3 * u.val + v.val) + 512 ≤ 4608
  omega

/-- The slab of weights the body loads for kernel position `(u, v)`. -/
def slabs (u v : Fin 3) : Vec Ideal S512x1024 .bf16 :=
  View.ld (iblk m c 1 t : Vec Ideal S4608x1024 .bf16)
    (Rect.unit (s := S4608x1024) ![512 * (3 * u.val + v.val), 0] ![512, 1024] (slab_inside u v))

variable (h : ∀ a, k0_off1 (grid0.coords t) a + ![1208, 512] a ≤ S5208x512.size a)

/-- The rows of the feature map the body loads at step `t`. -/
def rows : Vec Ideal S1208x512 .bf16 :=
  View.ld (iblk m c 0 t : Vec Ideal S5208x512 .bf16)
    (Rect.unit (s := S5208x512) (k0_off1 (grid0.coords t)) ![1208, 512] h)

/-- The body's loads at step `t` are rows from `1000 t` on and the nine slabs, of the arguments. -/
theorem reads : Reads (m ((c : Thread nD τ).loc main_arg0)) (m ((c : Thread nD τ).loc main_arg1))
    t.val (rows m c t h) (slabs m c t) where
  rows a k := (load_rows m c t h a k).trans (by rw [(arrays_eq m c).1, hostX_apply])
  slab u v a k := (load_slab _ _ (slab_inside u v) a k).trans ((load_weights m c t _ k).trans (by
    rw [(arrays_eq m c).2.1]
    exact hostW_apply _ u v a k _ rfl))

/-- The two heads the body computes at step `t`. -/
def heads : FVec Ideal S1000x64 .f32 :=
  raw (rows m c t h) (slabs m c t) (iblk m c 3 t) (iblk m c 2 t) (iblk m c 4 t)

/-- The two heads at row `r` and channel `n`, in the arrays the host prepared. -/
theorem heads_eq (r : Fin 1000) (n : Fin 64) :
    heads m c t h (ix2 r n)
      = (∑ k : Fin 1024, hiddenLayer (m ((c : Thread nD τ).loc main_arg0))
            (m ((c : Thread nD τ).loc main_arg1)) (m ((c : Thread nD τ).loc main_arg2))
            ((1000 * t.val + r.val) / 100) ((1000 * t.val + r.val) % 100) k
          * hostV (m ((c : Thread nD τ).loc main_arg3)) (m ((c : Thread nD τ).loc main_arg5))
              (ix2 k n))
        + hostD (m ((c : Thread nD τ).loc main_arg4)) (m ((c : Thread nD τ).loc main_arg6))
            (ix2 0 n) := by
  obtain ⟨-, -, hv, hb, hd⟩ := arrays_eq m c
  refine (raw_eq (reads m c t h) (m ((c : Thread nD τ).loc main_arg2)) _ (fun k => ?_) _ _ r n).trans
    (congrArg₂ (· + ·) (Finset.sum_congr rfl fun k _ => congrArg (HMul.hMul _) ?_) ?_)
  · exact (load_bias m c t k).trans (by rw [hb, hostB_apply])
  · exact (load_heads m c t k n).trans (by rw [hv])
  · exact (load_head_biases m c t n).trans (by rw [hd])

/-- The first 18 channels are the class logits. -/
theorem heads_cls (r : Fin 1000) (n : Fin 18) :
    heads m c t h (ix2 r (n.castLE (by omega)))
      = logit (m ((c : Thread nD τ).loc main_arg0)) (m ((c : Thread nD τ).loc main_arg1))
          (m ((c : Thread nD τ).loc main_arg2)) (m ((c : Thread nD τ).loc main_arg3))
          (m ((c : Thread nD τ).loc main_arg4))
          ((1000 * t.val + r.val) / 100) ((1000 * t.val + r.val) % 100) n := by
  rw [heads_eq, hostD_cls]
  exact congrArg (· + _) (Finset.sum_congr rfl fun k _ => congrArg (HMul.hMul _) (hostV_cls _ _ k n))

/-- The next 36 channels are the regression logits. -/
theorem heads_reg (r : Fin 1000) (n : Fin 36) :
    heads m c t h (ix2 r ⟨18 + n.val, by omega⟩)
      = logit (m ((c : Thread nD τ).loc main_arg0)) (m ((c : Thread nD τ).loc main_arg1))
          (m ((c : Thread nD τ).loc main_arg2)) (m ((c : Thread nD τ).loc main_arg5))
          (m ((c : Thread nD τ).loc main_arg6))
          ((1000 * t.val + r.val) / 100) ((1000 * t.val + r.val) % 100) n := by
  rw [heads_eq, hostD_reg]
  exact congrArg (· + _) (Finset.sum_congr rfl fun k _ => congrArg (HMul.hMul _) (hostV_reg _ _ k n))

/-- The block of scores the body stores at step `t`. -/
theorem block_scores (y : S1000x18.Idx) :
    k0_pay1 (heads m c t h) (2#32) k0_pay12 k0_pay13 k0_pay14 (0#1) y
      = score (m ((c : Thread nD τ).loc main_arg0)) (m ((c : Thread nD τ).loc main_arg1))
          (m ((c : Thread nD τ).loc main_arg2)) (m ((c : Thread nD τ).loc main_arg3))
          (m ((c : Thread nD τ).loc main_arg4))
          ((1000 * t.val + (y 0).val) / 100) ((1000 * t.val + (y 0).val) % 100) (y 1) := by
  obtain ⟨r, n, rfl⟩ : ∃ (r : Fin 1000) (n : Fin 18), y = ix2 r n := ⟨y 0, y 1, (ix2_eta y).symm⟩
  rw [scores_eq, heads_cls, heads_cls]
  rfl

/-- The block of regression logits the body stores at step `t`. -/
theorem block_regs (y : S1000x36.Idx) :
    k0_pay2 (heads m c t h) y
      = logit (m ((c : Thread nD τ).loc main_arg0)) (m ((c : Thread nD τ).loc main_arg1))
          (m ((c : Thread nD τ).loc main_arg2)) (m ((c : Thread nD τ).loc main_arg5))
          (m ((c : Thread nD τ).loc main_arg6))
          ((1000 * t.val + (y 0).val) / 100) ((1000 * t.val + (y 0).val) % 100) (y 1) := by
  obtain ⟨r, n, rfl⟩ : ∃ (r : Fin 1000) (n : Fin 36), y = ix2 r n := ⟨y 0, y 1, (ix2_eta y).symm⟩
  rw [regs_eq, heads_reg]
  rfl

omit t h

/-- After the five steps the first output array holds the scores. -/
theorem array_scores :
    (dats m 0 c).arrAt 5 (cfgs 0).N
      = scores (m ((c : Thread nD τ).loc main_arg0)) (m ((c : Thread nD τ).loc main_arg1))
          (m ((c : Thread nD τ).loc main_arg2)) (m ((c : Thread nD τ).loc main_arg3))
          (m ((c : Thread nD τ).loc main_arg4)) := by
  refine (dats m 0 c).arrAt_eq_of_covers 5 _ (by decide +kernel) fun t _ y => ?_
  blk_simp
  rw [after0_5]
  unfold outsAt0
  dsimp only
  frame_out
  rw [place_scores]
  exact block_scores m c t _ y

/-- After the five steps the second output array holds the regression logits. -/
theorem array_regs :
    (dats m 0 c).arrAt 6 (cfgs 0).N
      = regs (m ((c : Thread nD τ).loc main_arg0)) (m ((c : Thread nD τ).loc main_arg1))
          (m ((c : Thread nD τ).loc main_arg2)) (m ((c : Thread nD τ).loc main_arg5))
          (m ((c : Thread nD τ).loc main_arg6)) := by
  refine (dats m 0 c).arrAt_eq_of_covers 6 _ (by decide +kernel) fun t _ y => ?_
  blk_simp
  rw [after0_6]
  unfold outsAt0
  dsimp only
  frame_out
  rw [place_regs]
  exact block_regs m c t _ y

/-- The first result is the array of scores in rows of two. -/
theorem result_scores :
    Pipeline.afterTail₀ cfgs (dats m) 0 (V0 m) [hostOps1] c main_v19
      = shapeCast S45000x2 (scores (m ((c : Thread nD τ).loc main_arg0))
          (m ((c : Thread nD τ).loc main_arg1)) (m ((c : Thread nD τ).loc main_arg2))
          (m ((c : Thread nD τ).loc main_arg3)) (m ((c : Thread nD τ).loc main_arg4)))
          shapeCasts_S5000x18_S45000x2 := by
  rw [← array_scores]
  unfold Pipeline.afterTail₀
  simp only [hostOps1, List.flatten_cons, List.flatten_nil, List.append_nil]
  after_results_simp
  exact congrArg (fun A : FVec Ideal S5000x18 .f32 => shapeCast S45000x2 A
      shapeCasts_S5000x18_S45000x2)
    (Pipeline.withArrays_arr (cfgs 0).spec (by decide) c (V0 m c) _ 5)

/-- The second result is the array of regression logits in rows of four. -/
theorem result_regs :
    Pipeline.afterTail₀ cfgs (dats m) 0 (V0 m) [hostOps1] c main_v20
      = shapeCast S45000x4 (regs (m ((c : Thread nD τ).loc main_arg0))
          (m ((c : Thread nD τ).loc main_arg1)) (m ((c : Thread nD τ).loc main_arg2))
          (m ((c : Thread nD τ).loc main_arg5)) (m ((c : Thread nD τ).loc main_arg6)))
          shapeCasts_S5000x36_S45000x4 := by
  rw [← array_regs]
  unfold Pipeline.afterTail₀
  simp only [hostOps1, List.flatten_cons, List.flatten_nil, List.append_nil]
  after_results_simp
  exact congrArg (fun A : FVec Ideal S5000x36 .f32 => shapeCast S45000x4 A
      shapeCasts_S5000x36_S45000x4)
    (Pipeline.withArrays_arr (cfgs 0).spec (by decide) c (V0 m c) _ 6)

/-- Every execution of the kernel's program ends with its two results at the scores and the
regression logits. -/
theorem run (ρ : Dev nD → PrngReg) :
    θ_run defs (onTc (τ := τ) (main (F := Ideal))) ⟨m, fun _ => 0, ρ⟩ fun r => ∀ c : Dev nD,
      r.2.mem ((c : Thread nD τ).loc main_v19)
          = shapeCast S45000x2 (scores (m ((c : Thread nD τ).loc main_arg0))
            (m ((c : Thread nD τ).loc main_arg1)) (m ((c : Thread nD τ).loc main_arg2))
            (m ((c : Thread nD τ).loc main_arg3)) (m ((c : Thread nD τ).loc main_arg4)))
            shapeCasts_S5000x18_S45000x2
        ∧ r.2.mem ((c : Thread nD τ).loc main_v20)
          = shapeCast S45000x4 (regs (m ((c : Thread nD τ).loc main_arg0))
            (m ((c : Thread nD τ).loc main_arg1)) (m ((c : Thread nD τ).loc main_arg2))
            (m ((c : Thread nD τ).loc main_arg5)) (m ((c : Thread nD τ).loc main_arg6)))
            shapeCasts_S5000x36_S45000x4 :=
  (θ_run defs _ _).mono (fun _ h c =>
    ⟨((h c).2 main_v19 (Pipeline.mem_restRefs_of main_v19 (by decide) (by decide))).trans
        (result_scores m c),
      ((h c).2 main_v20 (Pipeline.mem_restRefs_of main_v20 (by decide) (by decide))).trans
        (result_regs m c)⟩) (run_main m ρ)

end Cert.KernelIdeal.RpnValue

end
-- ==== Proof.Reference.lean ====
module

public import proofs.«01_k».proof.Proof.Gen.ReferenceIdeal.Read
public import proofs.«01_k».proof.Proof.Spec
public import Idealize.ShloMosaic.Lib.Pointwise

@[expose] public section

/-! # What the reference computes

Each result of the reference is read at an index and shown to be the function of `RpnSpec` there. -/

set_option maxRecDepth 16384

noncomputable section

namespace Cert.ReferenceIdeal.Rpn

open Cert.ReferenceIdeal Cert.ReferenceIdeal.Gen Cert.ReferenceIdeal.Read
open Idealize.ShloMosaic RpnSpec

/-- The reference's padded feature map is the padded feature map. -/
theorem padded_eq (x : Feat) (c : Fin 512) (a : Fin 52) (b : Fin 102) :
    val_main_v1 (F := Ideal) x (ix3 c a b) = padded x c a.val b.val := by
  pointwise [val_main_v1, val_main_v0, val_main_call0_v0, val_main_c]
  exact dite_congr rfl (fun _ => rfl) fun _ => padding_zero

/-- A sum of the weights' products with a row of the padded map is one of the nine products. -/
theorem tap_of_sum (x : Feat) (w : Conv) (k : Fin 1024) (u v : Fin 3) (h : Fin 50) (q : Fin 100)
    (a : Fin 52) (b : Fin 102) (ha : a.val = h.val + u.val) (hb : b.val = q.val + v.val) :
    (∑ c : Fin 512, w (ix4 k c u v) * val_main_v1 (F := Ideal) x (ix3 c a b))
      = tap x w h.val q.val k u v := by
  rw [tap]
  refine Finset.sum_congr rfl fun c _ => ?_
  rw [padded_eq, ha, hb, mul_comm]

variable (x : Feat) (w : Conv) (b : Bias) (k : Fin 1024) (h : Fin 50) (q : Fin 100)

/-- The first row of products of the reference: the positions of kernel row 0. -/
theorem taps_row0 :
    val_main_v6 (F := Ideal) x w (ix3 k h q) = tap x w h.val q.val k 0 0
      ∧ val_main_v11 (F := Ideal) x w (ix3 k h q) = tap x w h.val q.val k 0 1
      ∧ val_main_v16 (F := Ideal) x w (ix3 k h q) = tap x w h.val q.val k 0 2 := by
  refine ⟨?_, ?_, ?_⟩ <;>
  pointwise [val_main_v6, val_main_v5, val_main_v4, val_main_v3,
    val_main_v11, val_main_v10, val_main_v9, val_main_v8,
    val_main_v16, val_main_v15, val_main_v14, val_main_v13] <;>
  exact tap_of_sum x w k _ _ h q _ _ (by simp [Nat.add_comm]) (by simp [Nat.add_comm])

/-- The second row of products of the reference: the positions of kernel row 1. -/
theorem taps_row1 :
    val_main_v21 (F := Ideal) x w (ix3 k h q) = tap x w h.val q.val k 1 0
      ∧ val_main_v26 (F := Ideal) x w (ix3 k h q) = tap x w h.val q.val k 1 1
      ∧ val_main_v31 (F := Ideal) x w (ix3 k h q) = tap x w h.val q.val k 1 2 := by
  refine ⟨?_, ?_, ?_⟩ <;>
  pointwise [val_main_v21, val_main_v20, val_main_v19, val_main_v18,
    val_main_v26, val_main_v25, val_main_v24, val_main_v23,
    val_main_v31, val_main_v30, val_main_v29, val_main_v28] <;>
  exact tap_of_sum x w k _ _ h q _ _ (by simp [Nat.add_comm]) (by simp [Nat.add_comm])

/-- The third row of products of the reference: the positions of kernel row 2. -/
theorem taps_row2 :
    val_main_v36 (F := Ideal) x w (ix3 k h q) = tap x w h.val q.val k 2 0
      ∧ val_main_v41 (F := Ideal) x w (ix3 k h q) = tap x w h.val q.val k 2 1
      ∧ val_main_v46 (F := Ideal) x w (ix3 k h q) = tap x w h.val q.val k 2 2 := by
  refine ⟨?_, ?_, ?_⟩ <;>
  pointwise [val_main_v36, val_main_v35, val_main_v34, val_main_v33,
    val_main_v41, val_main_v40, val_main_v39, val_main_v38,
    val_main_v46, val_main_v45, val_main_v44, val_main_v43] <;>
  exact tap_of_sum x w k _ _ h q _ _ (by simp [Nat.add_comm]) (by simp [Nat.add_comm])

/-- The reference's rectified convolution is the hidden layer. -/
theorem hidden_eq :
    val_main_v52 (F := Ideal) x w b (ix4 0 k h q) = hiddenLayer x w b h.val q.val k := by
  pointwise [val_main_v52, val_main_v51, val_main_v50, val_main_v49, val_main_v48, val_main_v47,
    val_main_v42, val_main_v37, val_main_v32, val_main_v27, val_main_v22, val_main_v17,
    val_main_v12, val_main_v7, val_main_v2, val_main_cst, val_main_call1_v0, val_main_call1_cst]
  obtain ⟨h00, h01, h02⟩ := taps_row0 x w k h q
  obtain ⟨h10, h11, h12⟩ := taps_row1 x w k h q
  obtain ⟨h20, h21, h22⟩ := taps_row2 x w k h q
  rw [h00, h01, h02, h10, h11, h12, h20, h21, h22, hiddenLayer]

/-- The reference's second result is the regression logit of its pixel and channel. -/
theorem reg_eq (v : HeadW 36) (d : HeadB 36) (i : Fin 45000) (s : Fin 4) :
    val_main_v83 (F := Ideal) x w b v d (ix2 i s)
      = logit x w b v d (i.val / 900) (i.val / 9 % 100)
          ⟨i.val % 9 * 4 + s.val, by have := s.isLt; omega⟩ := by
  pointwise [val_main_v83, val_main_v70, val_main_v69, val_main_v68, val_main_v67, val_main_v66,
    val_main_v65, val_main_v64, val_main_v63, val_main_v62]
  unfold logit
  refine congrArg (· + _) (Finset.sum_congr rfl fun k _ => ?_)
  refine (mul_comm _ _).trans (congrArg (· * _) ?_)
  exact hidden_eq x w b k _ _

/-- The reference's class logits, in rows of two, are the class logits of the pixel and channel. -/
theorem cls_eq (v : HeadW 18) (d : HeadB 18) (i : Fin 45000) (s : Fin 2) :
    val_main_v71 (F := Ideal) x w b v d (ix2 i s)
      = logit x w b v d (i.val / 900) (i.val / 9 % 100)
          ⟨i.val % 9 * 2 + s.val, by have := s.isLt; omega⟩ := by
  pointwise [val_main_v71, val_main_v61, val_main_v60, val_main_v59, val_main_v58, val_main_v57,
    val_main_v56, val_main_v55, val_main_v54, val_main_v53]
  unfold logit
  refine congrArg (· + _) (Finset.sum_congr rfl fun k _ => ?_)
  refine (mul_comm _ _).trans (congrArg (· * _) ?_)
  exact hidden_eq x w b k _ _

/-- The word the reference starts its maximum from is minus infinity. -/
theorem bottom_eq : (Ideal.ofBits .f32 0xFF800000#32 : EReal) = ⊥ := by
  simp [Ideal.ofBits, Ideal.ieee]

/-- A maximum over two numbers started from minus infinity is their maximum. -/
theorem max_of_two (f : Fin 2 → EReal) :
    max (⊥ : EReal) (Finset.fold max ⊥ f Finset.univ) = max (f 0) (f 1) := by
  rw [show (Finset.univ : Finset (Fin 2)) = {0, 1} from rfl]
  simp

/-- The reference's softmax of a row of two numbers is the softmax of the pair, at either column. -/
theorem softmax_eq (v : HeadW 18) (d : HeadB 18) (i : Fin 45000) (s : Fin 2) :
    val_main_v82 (F := Ideal) x w b v d (ix2 i s)
      = pair (val_main_v71 (F := Ideal) x w b v d (ix2 i s))
          (val_main_v71 (F := Ideal) x w b v d (ix2 i (1 - s))) := by
  pointwise [val_main_v82, val_main_v81, val_main_v80, val_main_v79, val_main_v78, val_main_v77,
    val_main_v76, val_main_v75, val_main_v74, val_main_v73, val_main_v72, val_main_cst_0,
    val_main_cst_1, val_main_cst_2]
  rw [pair]
  generalize val_main_v71 (F := Ideal) x w b v d = f
  rw [Fin.sum_univ_two, bottom_eq, max_of_two]
  revert s
  refine Fin.forall_fin_two.2 ⟨rfl, ?_⟩
  rw [max_comm, add_comm]
  rfl

/-- The reference's first result is the score of its pixel and channel. -/
theorem score_eq (v : HeadW 18) (d : HeadB 18) (i : Fin 45000) (s : Fin 2) :
    val_main_v82 (F := Ideal) x w b v d (ix2 i s)
      = score x w b v d (i.val / 900) (i.val / 9 % 100)
          ⟨i.val % 9 * 2 + s.val, by have := s.isLt; omega⟩ := by
  rw [softmax_eq, cls_eq, cls_eq, score]
  refine congrArg (pair _) (congrArg (logit x w b v d _ _) (Fin.ext ?_))
  revert s
  refine Fin.forall_fin_two.2 ⟨?_, ?_⟩
  · show i.val % 9 * 2 + 1 = if (i.val % 9 * 2 + 0) % 2 = 0 then _ else _
    rw [if_pos (by omega)]
    rfl
  · show i.val % 9 * 2 + 0 = if (i.val % 9 * 2 + 1) % 2 = 0 then _ else _
    rw [if_neg (by omega)]
    rfl

end Cert.ReferenceIdeal.Rpn

end
-- ==== Proof.Agree.lean ====
module

public import proofs.«01_k».proof.Proof.Value
public import proofs.«01_k».proof.Proof.Reference

@[expose] public section

/-! # The kernel and the reference agree

Of the same arguments, the kernel's two results and the reference's two results are equal arrays. -/

set_option maxRecDepth 16384

noncomputable section

namespace Cert.RpnAgree

open Idealize.ShloMosaic RpnSpec Cert.KernelIdeal.RpnValue

/-- The scores in rows of two are the reference's first result. -/
theorem scores_agree (x : Feat) (w : Conv) (b : Bias) (v : HeadW 18) (d : HeadB 18) :
    ReferenceIdeal.Read.val_main_v82 (F := Ideal) x w b v d
      = shapeCast KernelIdeal.S45000x2 (scores x w b v d)
          KernelIdeal.Gen.facts.shapeCasts_S5000x18_S45000x2 := by
  funext j
  rw [← ix2_eta j]
  refine (ReferenceIdeal.Rpn.score_eq x w b v d (j 0) (j 1)).trans ?_
  pointwise
  exact congrArg (score x w b v d · _ _) (Nat.div_div_eq_div_mul (j 0).val 9 100).symm

/-- The regression logits in rows of four are the reference's second result. -/
theorem regs_agree (x : Feat) (w : Conv) (b : Bias) (v : HeadW 36) (d : HeadB 36) :
    ReferenceIdeal.Read.val_main_v83 (F := Ideal) x w b v d
      = shapeCast KernelIdeal.S45000x4 (regs x w b v d)
          KernelIdeal.Gen.facts.shapeCasts_S5000x36_S45000x4 := by
  funext j
  rw [← ix2_eta j]
  refine (ReferenceIdeal.Rpn.reg_eq x w b v d (j 0) (j 1)).trans ?_
  pointwise
  exact congrArg (logit x w b v d · _ _) (Nat.div_div_eq_div_mul (j 0).val 9 100).symm

end Cert.RpnAgree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every execution of the reference ends with its arguments unchanged and its counters at zero. -/
theorem reference_frame :
    Cert.quiescent_ReferenceIdeal (hReferenceIdeal := Cert.ReferenceIdeal.Gen.facts) := by
  intro m ρ _
  exact (θ_run _ _ _).mono
    (fun r h => ⟨fun c => (h c).2.2, sem_eq_zero_of_no_sems rfl r.2⟩)
    (Cert.ReferenceIdeal.Value.run m ρ)

/-- The kernel and the reference, over the ideal numbers, end with the same two results. -/
theorem agree : Cert.algebraic_KernelIdeal_ReferenceIdeal
    (hKernelIdeal := Cert.KernelIdeal.Gen.facts)
    (hReferenceIdeal := Cert.ReferenceIdeal.Gen.facts) := by
  intro m g m' g' _ hagree
  refine ⟨_, _, (θ_run _ _ _).mono (fun r h c => ⟨(h.1 c).1, (h.1 c).2, h.2 c⟩)
    (θ_run_and (Cert.KernelIdeal.RpnValue.run m g) (Cert.KernelIdeal.Gen.unchanged m g)),
    (θ_run _ _ _).mono (fun r h c => ⟨(h c).1.trans ?_, (h c).2.1.trans ?_, (h c).2.2⟩)
      (Cert.ReferenceIdeal.Value.run m' g')⟩
  · obtain ⟨h0, h1, h2, h3, h4, -, -⟩ := hagree c
    refine (Cert.ReferenceIdeal.Read.val_main_v82_eq m' c).trans ?_
    rw [h0, h1, h2, h3, h4]
    exact RpnAgree.scores_agree _ _ _ _ _
  · obtain ⟨h0, h1, h2, -, -, h5, h6⟩ := hagree c
    refine (Cert.ReferenceIdeal.Read.val_main_v83_eq m' c).trans ?_
    rw [h0, h1, h2, h5, h6]
    exact RpnAgree.regs_agree _ _ _ _ _

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, trivial, agree⟩

end Cert.Proof

end
